-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v29) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x64x32x32 : Shape := ⟨4, ![16, 64, 32, 32]⟩
abbrev S1024x64 : Shape := ⟨2, ![1024, 64]⟩
abbrev S16x32x32x64 : Shape := ⟨4, ![16, 32, 32, 64]⟩
abbrev S16384x64 : Shape := ⟨2, ![16384, 64]⟩
abbrev S16384x1 : Shape := ⟨2, ![16384, 1]⟩
abbrev S1x1 : Shape := ⟨2, ![1, 1]⟩
abbrev S4096x64 : Shape := ⟨2, ![4096, 64]⟩
abbrev S4096x1 : Shape := ⟨2, ![4096, 1]⟩
abbrev S4096 : Shape := ⟨1, ![4096]⟩
abbrev S4096x1024 : Shape := ⟨2, ![4096, 1024]⟩
abbrev S1024 : Shape := ⟨1, ![1024]⟩
abbrev S1x1024 : Shape := ⟨2, ![1, 1024]⟩
abbrev S1x4096x64 : Shape := ⟨3, ![1, 4096, 64]⟩
abbrev S1 : Shape := ⟨1, ![1]⟩
abbrev S1x1x1 : Shape := ⟨3, ![1, 1, 1]⟩
abbrev S16x32x32 : Shape := ⟨3, ![16, 32, 32]⟩
abbrev S_ : Shape := ⟨0, ![]⟩

abbrev nBuf : Space → Nat
  | .hbm => 18
  | .vmem => 8
  | .smem => 0
  | _ => 0

abbrev bufTy : (tb : Table) → Fin (tcTables nBuf tb) → BufTy
  | .hbm, ⟨0, _⟩ => ⟨S16x64x32x32, .f32⟩
  | .hbm, ⟨1, _⟩ => ⟨S1024x64, .f32⟩
  | .hbm, ⟨2, _⟩ => ⟨S16x32x32x64, .f32⟩
  | .hbm, ⟨3, _⟩ => ⟨S16384x64, .f32⟩
  | .hbm, ⟨4, _⟩ => ⟨S16384x1, .i32⟩
  | .hbm, ⟨5, _⟩ => ⟨S16384x64, .f32⟩
  | .hbm, ⟨6, _⟩ => ⟨S1x1, .f32⟩
  | .hbm, ⟨7, _⟩ => ⟨S16x32x32, .i32⟩
  | .hbm, ⟨8, _⟩ => ⟨S16x32x32x64, .f32⟩
  | .hbm, ⟨9, _⟩ => ⟨S16x64x32x32, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S4096x64, .f32⟩
  | .local _ .vmem, ⟨1, _⟩ => ⟨S4096x64, .f32⟩
  | .local _ .vmem, ⟨2, _⟩ => ⟨S1024x64, .f32⟩
  | .local _ .vmem, ⟨3, _⟩ => ⟨S4096x1, .i32⟩
  | .local _ .vmem, ⟨4, _⟩ => ⟨S4096x1, .i32⟩
  | .local _ .vmem, ⟨5, _⟩ => ⟨S4096x64, .f32⟩
  | .local _ .vmem, ⟨6, _⟩ => ⟨S4096x64, .f32⟩
  | .local _ .vmem, ⟨7, _⟩ => ⟨S1x1, .f32⟩
  | _, _ => ⟨S16x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S16x64x32x32 : Shape := ⟨4, ![16, 64, 32, 32]⟩
abbrev S1024x64 : Shape := ⟨2, ![1024, 64]⟩
abbrev S16x32x32x64 : Shape := ⟨4, ![16, 32, 32, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S64x1024 : Shape := ⟨2, ![64, 1024]⟩
abbrev S16384x1024 : Shape := ⟨2, ![16384, 1024]⟩
abbrev S1024 : Shape := ⟨1, ![1024]⟩
abbrev S1x1024 : Shape := ⟨2, ![1, 1024]⟩
abbrev S16x32x32 : Shape := ⟨3, ![16, 32, 32]⟩

abbrev nBuf : Space → Nat
  | .hbm => 53
  | .vmem => 0
  | .smem => 0
  | _ => 0

abbrev bufTy : (tb : Table) → Fin (tcTables nBuf tb) → BufTy
  | .hbm, ⟨0, _⟩ => ⟨S16x64x32x32, .f32⟩
  | .hbm, ⟨1, _⟩ => ⟨S1024x64, .f32⟩
  | .hbm, ⟨2, _⟩ => ⟨S16x32x32x64, .f32⟩
  | .hbm, ⟨3, _⟩ => ⟨S16384x64, .f32⟩
  | .hbm, ⟨4, _⟩ => ⟨S16384x64, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S64x1024, .f32⟩
  | .hbm, ⟨9, _⟩ => ⟨S16384x1024, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S1024x64, .f32⟩
  | .hbm, ⟨16, _⟩ => ⟨S_, .f32⟩
  | .hbm, ⟨17, _⟩ => ⟨S1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x1024, .i32⟩
  | .hbm, ⟨22, _⟩ => ⟨S_, .f32⟩
  | .hbm, ⟨23, _⟩ => ⟨S_, .i32⟩
  | .hbm, ⟨24, _⟩ => ⟨S16384, .f32⟩
  | .hbm, ⟨25, _⟩ => ⟨S16384, .i32⟩
  | .hbm, ⟨26, _⟩ => ⟨S16384x1, .i32⟩
  | .hbm, ⟨27, _⟩ => ⟨S1x1024, .i32⟩
  | .hbm, ⟨28, _⟩ => ⟨S16384x1024, .i32⟩
  | .hbm, ⟨29, _⟩ => ⟨S16384x1024, .i32⟩
  | .hbm, ⟨30, _⟩ => ⟨S16384x1024, .i1⟩
  | .hbm, ⟨31, _⟩ => ⟨S16384x1024, .f32⟩
  | .hbm, ⟨32, _⟩ => ⟨S16384x64, .f32⟩
  | .hbm, ⟨33, _⟩ => ⟨S16x32x32x64, .f32⟩
  | .hbm, ⟨34, _⟩ => ⟨S16x32x32x64, .f32⟩
  | .hbm, ⟨35, _⟩ => ⟨S16x32x32x64, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S16x32x32x64, .f32⟩
  | .hbm, ⟨41, _⟩ => ⟨S16x32x32x64, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S16x32x32x64, .f32⟩
  | .hbm, ⟨50, _⟩ => ⟨S16x32x32x64, .f32⟩
  | .hbm, ⟨51, _⟩ => ⟨S16x32x32, .i32⟩
  | .hbm, ⟨52, _⟩ => ⟨S16x64x32x32, .f32⟩
  | _, _ => ⟨S16x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]
-- ==== Proof.FirstMin.lean ====
/- The first position at which a finite family of extended reals is least, and two ways of computing it: by
   the smallest index among the positions that attain the minimum, and by a left fold over pairs of a value
   and an index. -/
module

public import Idealize.ShloMosaic.PureOps.Ideal.Laws

@[expose] public section

noncomputable section

namespace Cert.Vq

open Idealize.ShloMosaic

/-- `i` is the first position at which `d` takes its least value. -/
def IsFirstMin {n : ℕ} (d : Fin n → EReal) (i : Fin n) : Prop :=
  (∀ k, d i ≤ d k) ∧ ∀ k, d k = d i → i ≤ k

/-- A family has one first least position at most. -/
theorem IsFirstMin.unique {n : ℕ} {d : Fin n → EReal} {i j : Fin n} (hi : IsFirstMin d i) (hj : IsFirstMin d j) :
    i = j := by
  have h : d i = d j := le_antisymm (hi.1 j) (hj.1 i)
  exact le_antisymm (hi.2 j h.symm) (hj.2 i h)

/-- A family over 1024 positions has a first least position. -/
theorem exists_isFirstMin (d : Fin 1024 → EReal) : ∃ i, IsFirstMin d i := by
  obtain ⟨a, -, ha⟩ := Finset.exists_min_image Finset.univ d ⟨0, Finset.mem_univ _⟩
  obtain ⟨b, hb, hmin⟩ := Finset.exists_min_image (Finset.univ.filter fun k => d k = d a) id
    ⟨a, by simp⟩
  have hab : d b = d a := (Finset.mem_filter.1 hb).2
  refine ⟨b, fun k => hab ▸ ha k (Finset.mem_univ _), fun k hk => ?_⟩
  exact hmin k (by simp [hk, hab])

/-- The first position at which `d` is least. -/
def firstMin (d : Fin 1024 → EReal) : Fin 1024 := (exists_isFirstMin d).choose

theorem firstMin_spec (d : Fin 1024 → EReal) : IsFirstMin d (firstMin d) := (exists_isFirstMin d).choose_spec

/-- The minimum of the family, taken from the top, is its value at the first least position. -/
theorem fold_min_eq (d : Fin 1024 → EReal) : Finset.fold min ⊤ d Finset.univ = d (firstMin d) := by
  refine le_antisymm ?_ ?_
  · exact (Finset.fold_min_le _).2 (.inr ⟨_, Finset.mem_univ _, le_rfl⟩)
  · exact (Finset.le_fold_min _).2 ⟨le_top, fun k _ => (firstMin_spec d).1 k⟩

/-- The smallest index among the positions where `d` attains its minimum, a position off the minimum standing
    for a number above every index: the first least position. -/
theorem fold_min_index (d : Fin 1024 → EReal) :
    Finset.fold min ⊤
      (fun k : Fin 1024 => if d k = Finset.fold min ⊤ d Finset.univ then (((k : ℕ) : ℝ) : EReal) else ((2048 : ℝ) : EReal))
      Finset.univ = (((firstMin d : ℕ) : ℝ) : EReal) := by
  rw [fold_min_eq d]
  refine le_antisymm ?_ ?_
  · refine (Finset.fold_min_le _).2 (.inr ⟨firstMin d, Finset.mem_univ _, ?_⟩)
    rw [if_pos rfl]
  · refine (Finset.le_fold_min _).2 ⟨le_top, fun k _ => ?_⟩
    split_ifs with h
    · exact EReal.coe_le_coe_iff.2 (Nat.cast_le.2 ((firstMin_spec d).2 k h))
    · refine EReal.coe_le_coe_iff.2 ?_
      have : ((firstMin d : ℕ) : ℝ) < 1024 := by exact_mod_cast (firstMin d).isLt
      linarith

/-- One step of the search that carries the least value seen and its index: of two pairs the one of the
    smaller value, of two equal values the one of the smaller index. -/
structure Keeps (f : EReal × BitVec 32 → EReal × BitVec 32 → EReal × BitVec 32) : Prop where
  lt : ∀ a b, a.1 < b.1 → f a b = a
  gt : ∀ a b, b.1 < a.1 → f a b = b
  eq : ∀ a b : EReal × BitVec 32, a.1 = b.1 → f a b = (a.1, if a.2.toInt < b.2.toInt then a.2 else b.2)

/-- The search over a list of pairs `(d k, k)`, started at the pair of the top and 0: what it ends with lies
    at or below the value of every pair of the list, at a position no later than any of the same value, and is
    the starting pair (that of the top) or a pair of the list. -/
theorem foldl_keeps {f : EReal × BitVec 32 → EReal × BitVec 32 → EReal × BitVec 32} (hf : Keeps f)
    (d : Fin 1024 → EReal) (l : List (Fin 1024)) :
    ∀ s : EReal × BitVec 32, (∃ i : Fin 1024, s.2 = BitVec.ofNat 32 i ∧ (s.1 = ⊤ ∧ i = 0 ∨ s.1 = d i)) →
      ∃ i : Fin 1024, (l.foldl (fun s k => f s (d k, BitVec.ofNat 32 k)) s).2 = BitVec.ofNat 32 i
        ∧ ((l.foldl (fun s k => f s (d k, BitVec.ofNat 32 k)) s).1 = ⊤ ∧ i = 0
            ∨ (l.foldl (fun s k => f s (d k, BitVec.ofNat 32 k)) s).1 = d i)
        ∧ (l.foldl (fun s k => f s (d k, BitVec.ofNat 32 k)) s).1 ≤ s.1
        ∧ ((l.foldl (fun s k => f s (d k, BitVec.ofNat 32 k)) s).1 = s.1 → (i : ℕ) ≤ s.2.toNat)
        ∧ ∀ k ∈ l, (l.foldl (fun s k => f s (d k, BitVec.ofNat 32 k)) s).1 ≤ d k
          ∧ (d k = (l.foldl (fun s k => f s (d k, BitVec.ofNat 32 k)) s).1 → i ≤ k) := by
  have toI : ∀ i : Fin 1024, (BitVec.ofNat 32 (i : ℕ)).toInt = (i : ℕ) := fun i => by
    have := i.isLt
    rw [BitVec.toInt_eq_toNat_of_lt (by rw [BitVec.toNat_ofNat]; omega), BitVec.toNat_ofNat]
    congr 1; omega
  have toN : ∀ i : Fin 1024, (BitVec.ofNat 32 (i : ℕ)).toNat = (i : ℕ) := fun i => by
    have := i.isLt
    rw [BitVec.toNat_ofNat]; omega
  induction l with
  | nil =>
    rintro s ⟨i, hi, h⟩
    exact ⟨i, hi, h, le_rfl, fun _ => by simp [hi, toN], by simp⟩
  | cons a l ih =>
    rintro s ⟨i, hi, h⟩
    simp only [List.foldl_cons]
    rcases lt_trichotomy s.1 (d a) with hlt | heq | hgt
    · rw [hf.lt s (d a, BitVec.ofNat 32 a) hlt]
      obtain ⟨j, h1, h2, h3, h4, h5⟩ := ih s ⟨i, hi, h⟩
      refine ⟨j, h1, h2, h3, h4, fun k hk => ?_⟩
      rcases List.mem_cons.1 hk with rfl | hk
      · exact ⟨h3.trans hlt.le, fun e => absurd (e ▸ h3) (not_le.2 hlt)⟩
      · exact h5 k hk
    · rw [hf.eq s (d a, BitVec.ofNat 32 a) heq]
      have hmin : (if s.2.toInt < (BitVec.ofNat 32 (a : ℕ)).toInt then s.2 else BitVec.ofNat 32 (a : ℕ))
          = BitVec.ofNat 32 ((min i a : Fin 1024) : ℕ) := by
        rw [hi, toI, toI]
        split_ifs with hh
        · rw [min_eq_left (Fin.le_def.2 (by omega))]
        · rw [min_eq_right (Fin.le_def.2 (by omega))]
      simp only [hmin]
      obtain ⟨j, h1, h2, h3, h4, h5⟩ := ih (s.1, BitVec.ofNat 32 ((min i a : Fin 1024) : ℕ)) ⟨min i a, rfl, by
        rcases le_total i a with hle | hle
        · rw [min_eq_left hle]; exact h
        · rw [min_eq_right hle]; exact .inr heq⟩
      simp only [toN] at h4
      refine ⟨j, h1, h2, h3, fun e => ?_, fun k hk => ?_⟩
      · have := h4 e
        rw [hi, toN]
        exact this.trans (Fin.le_def.1 (min_le_left i a))
      · rcases List.mem_cons.1 hk with rfl | hk
        · exact ⟨heq ▸ h3, fun e => Fin.le_def.2 ((h4 (e.symm.trans heq.symm)).trans (Fin.le_def.1 (min_le_right i k)))⟩
        · exact h5 k hk
    · rw [hf.gt s (d a, BitVec.ofNat 32 a) hgt]
      obtain ⟨j, h1, h2, h3, h4, h5⟩ := ih (d a, BitVec.ofNat 32 a) ⟨a, rfl, .inr rfl⟩
      simp only [toN] at h4
      refine ⟨j, h1, h2, h3.trans hgt.le, fun e => absurd (e ▸ h3) (not_le.2 hgt), fun k hk => ?_⟩
      rcases List.mem_cons.1 hk with rfl | hk
      · exact ⟨h3, fun e => Fin.le_def.2 (h4 e.symm)⟩
      · exact h5 k hk

/-- The search over a list that holds every position ends at the first least position. -/
theorem foldl_keeps_eq {f : EReal × BitVec 32 → EReal × BitVec 32 → EReal × BitVec 32} (hf : Keeps f)
    (d : Fin 1024 → EReal) (l : List (Fin 1024)) (hl : ∀ k, k ∈ l) :
    (l.foldl (fun s k => f s (d k, BitVec.ofNat 32 k)) (⊤, 0#32)).2 = BitVec.ofNat 32 (firstMin d : ℕ) := by
  obtain ⟨i, h1, h2, -, -, h5⟩ := foldl_keeps hf d l (⊤, 0#32) ⟨0, rfl, .inl ⟨rfl, rfl⟩⟩
  rw [h1]
  have hi : (l.foldl (fun s k => f s (d k, BitVec.ofNat 32 k)) (⊤, 0#32)).1 = d i := by
    rcases h2 with ⟨ht, rfl⟩ | h
    · exact ht.trans (top_le_iff.1 (ht ▸ (h5 0 (hl 0)).1)).symm
    · exact h
  rw [hi] at h5
  rw [IsFirstMin.unique (⟨fun k => (h5 k (hl k)).1, fun k hk => (h5 k (hl k)).2 hk⟩ : IsFirstMin d i) (firstMin_spec d)]

end Cert.Vq

end
-- ==== Proof.Scalars.lean ====
/- The scalar facts at the extended reals that the two programs' texts lead to: the float constants they name,
   a small index as a float and back, and the two divisions against the one. -/
module

public import proofs.«01_k».proof.Proof.FirstMin

@[expose] public section

noncomputable section

namespace Cert.Vq

open Idealize.ShloMosaic

/-- The pattern of the positive infinity is the top. -/
theorem ofBits_top : Ideal.ofBits .f32 2139095040#32 = ⊤ := by
  simp [Ideal.ofBits, Ideal.ieee]

/-- The pattern of 2048. -/
theorem ofBits_2048 : Ideal.ofBits .f32 1157627904#32 = ((2048 : ℝ) : EReal) := by
  simp [Ideal.ofBits, Ideal.ieee, -EReal.coe_mul]; norm_num

/-- The pattern of 16384, the number of rows. -/
theorem ofBits_16384 : Ideal.ofBits .f32 1182793728#32 = ((16384 : ℝ) : EReal) := by
  simp [Ideal.ofBits, Ideal.ieee, -EReal.coe_mul]; norm_num

/-- The pattern of 64, the width of a row. -/
theorem ofBits_64 : Ideal.ofBits .f32 1115684864#32 = ((64 : ℝ) : EReal) := by
  simp [Ideal.ofBits, Ideal.ieee, -EReal.coe_mul]; norm_num

/-- The pattern of 1048576, the number of elements. -/
theorem ofBits_1048576 : Ideal.ofBits .f32 1233125376#32 = ((1048576 : ℝ) : EReal) := by
  simp [Ideal.ofBits, Ideal.ieee, -EReal.coe_mul]; norm_num

/-- A small index as a signed word. -/
theorem toInt_index (k : Fin 1024) : (BitVec.ofNat 32 (k : ℕ)).toInt = (k : ℕ) := by
  have := k.isLt
  rw [BitVec.toInt_eq_toNat_of_lt (by rw [BitVec.toNat_ofNat]; omega), BitVec.toNat_ofNat]
  congr 1; omega

/-- A small index converted to a float is that number. -/
theorem sitofp_index (k : Fin 1024) :
    (FloatOps.sitofp .f32 (BitVec.ofNat 32 (k : ℕ)) : Ideal .f32) = (((k : ℕ) : ℝ) : EReal) := by
  show (((BitVec.ofNat 32 (k : ℕ)).toInt : ℝ) : EReal) = _
  rw [toInt_index]; norm_cast

/-- A small index held as a float, converted back to a word. -/
theorem fptosi_index (k : Fin 1024) :
    FloatOps.fptosi (F := Ideal) (φ := .f32) 32 (((k : ℕ) : ℝ) : EReal) = BitVec.ofNat 32 (k : ℕ) := by
  have hk := k.isLt
  show Ideal.fptosi 32 (((k : ℕ) : ℝ) : EReal) = _
  rw [Ideal.fptosi, Ideal.toIntClamped_coe, if_pos (Nat.cast_nonneg _), Int.floor_natCast,
    min_eq_right (by norm_num; omega), max_eq_right (by norm_num)]
  exact BitVec.ofInt_natCast ..

/-- The kernel's one-hot entry: an index compared with an index as floats, the bit widened and converted. -/
theorem oneHot_signed (k i : Fin 1024) :
    (FloatOps.sitofp .f32 (BitVec.setWidth 32 (BitVec.ofBool (decide ((((k : ℕ) : ℝ) : EReal) = (((i : ℕ) : ℝ) : EReal)))))
      : Ideal .f32) = if k = i then 1 else 0 := by
  have h : ((((k : ℕ) : ℝ) : EReal) = (((i : ℕ) : ℝ) : EReal)) ↔ k = i := by
    rw [EReal.coe_eq_coe_iff, Nat.cast_inj, Fin.ext_iff]
  show (((BitVec.setWidth 32 (BitVec.ofBool _)).toInt : ℝ) : EReal) = _
  by_cases e : k = i
  · rw [if_pos e, decide_eq_true (h.2 e)]; simp
  · rw [if_neg e, decide_eq_false (fun g => e (h.1 g))]; simp

/-- The reference's one-hot entry: an index compared with an index as words, the bit converted. -/
theorem oneHot_unsigned (k i : Fin 1024) :
    (FloatOps.uitofp .f32 (IntOp.cmpi .eq (BitVec.ofNat 32 (i : ℕ)) (BitVec.ofNat 32 (k : ℕ))) : Ideal .f32)
      = if k = i then 1 else 0 := by
  have h : (BitVec.ofNat 32 (i : ℕ) = BitVec.ofNat 32 (k : ℕ)) ↔ k = i := by
    constructor
    · intro e
      have e' := congrArg BitVec.toInt e
      rw [toInt_index, toInt_index] at e'
      exact Fin.ext (by omega)
    · rintro rfl; rfl
  show (((IntOp.cmpi .eq (BitVec.ofNat 32 (i : ℕ)) (BitVec.ofNat 32 (k : ℕ))).toNat : ℝ) : EReal) = _
  by_cases e : k = i
  · rw [if_pos e, e]; simp [IntOp.cmpi]
  · rw [if_neg e]; simp [IntOp.cmpi, mt h.1 e]

/-- Dividing by the number of rows and then by their width is dividing by the number of elements. -/
theorem div_div_count (S : EReal) :
    Ideal.div (Ideal.div S (Ideal.ofBits .f32 1182793728#32)) (Ideal.ofBits .f32 1115684864#32)
      = Ideal.div S (Ideal.ofBits .f32 1233125376#32) := by
  rw [ofBits_16384, ofBits_64, ofBits_1048576]
  unfold Ideal.div
  rw [if_neg (by norm_num), if_neg (by norm_num), if_neg (by norm_num), mul_assoc]
  congr 1
  rw [← EReal.coe_inv, ← EReal.coe_inv, ← EReal.coe_inv, ← EReal.coe_mul]
  norm_num

end Cert.Vq

end
-- ==== Proof.Quantize.lean ====
/- What is computed, in plain terms: every pixel's vector of 64 features is matched with the nearest of the 1024
   codebook rows, replaced by that row, and the squared errors are summed.

   `X` is the image batch (16 images of 64 features by 32 by 32 pixels), `W` the codebook (1024 rows of 64). A
   pixel is numbered `r = (image * 32 + row) * 32 + column`. -/
module

public import proofs.«01_k».proof.Proof.Scalars
public import Idealize.ShloMosaic.Lib.Pointwise

@[expose] public section

noncomputable section

namespace Cert.Vq

open Idealize.ShloMosaic

/-- The images. -/
abbrev Img : Type := FVec Ideal ⟨4, ![16, 64, 32, 32]⟩ .f32
/-- The codebook. -/
abbrev Book : Type := FVec Ideal ⟨2, ![1024, 64]⟩ .f32

/-- The squared distance of a feature vector `f` from a codebook row `w`, expanded: the square of `f`, less
    twice the product, plus the square of `w`. -/
def sqDist (f w : Fin 64 → EReal) : EReal :=
  ∑ c, f c * f c - Ideal.ofBits .f32 1073741824#32 * ∑ c, f c * w c + ∑ c, w c * w c

/-- The number of the nearest codebook row, the first of several. -/
def nearest (W : Book) (f : Fin 64 → EReal) : Fin 1024 := firstMin fun k => sqDist f fun c => W (ix2 k c)

/-- Feature `c` of the nearest row, taken as the product of a one-hot row with the codebook. -/
def picked (W : Book) (f : Fin 64 → EReal) (c : Fin 64) : EReal :=
  ∑ k : Fin 1024, (if k = nearest W f then 1 else 0) * W (ix2 k c)

/-- The quantized feature `c`: the feature plus its correction. -/
def passed (W : Book) (f : Fin 64 → EReal) (c : Fin 64) : EReal := f c + (picked W f c - f c)

/-- The squared error at feature `c`. -/
def sqErr (W : Book) (f : Fin 64 → EReal) (c : Fin 64) : EReal := (picked W f c - f c) * (picked W f c - f c)

/-- The feature vector of pixel `r`. -/
def pixel (X : Img) (r : Fin 16384) (c : Fin 64) : EReal :=
  X (ix4 ⟨r / 1024, by omega⟩ c ⟨r / 32 % 32, by omega⟩ ⟨r % 32, by omega⟩)

/-- The number of the pixel of image `b` at row `h` and column `w`. -/
def pixelNo (b : Fin 16) (h w : Fin 32) : Fin 16384 := ⟨(b * 32 + h) * 32 + w, by omega⟩

/-- The feature vector of the pixel at a place is read at that place. -/
theorem pixel_pixelNo (X : Img) (b : Fin 16) (h w : Fin 32) (c : Fin 64) :
    pixel X (pixelNo b h w) c = X (ix4 b c h w) := by
  unfold pixel pixelNo
  congr 1
  have hb := b.isLt; have hh := h.isLt; have hw := w.isLt
  exact congr (congr (congr (congrArg ix4 (Fin.ext (by simp only []; omega))) rfl) (Fin.ext (by simp only []; omega)))
    (Fin.ext (by simp only []; omega))

/-- A sum over the pixels, place by place. -/
theorem sum_pixels (F : Fin 16384 → EReal) :
    ∑ r, F r = ∑ b : Fin 16, ∑ h : Fin 32, ∑ w : Fin 32, F (pixelNo b h w) := by
  rw [Fin.sum_univ_tiles 512 32 rfl F, Fin.sum_univ_tiles 16 32 rfl]
  rfl

/-- A sum over the pixels, by four blocks of 4096. -/
theorem sum_blocks (F : Fin 16384 → EReal) :
    ∑ r, F r = ∑ t : Fin 4, ∑ p : Fin 4096, F ⟨t * 4096 + p, by omega⟩ :=
  Fin.sum_univ_tiles 4 4096 rfl F

/-- The sum of all squared errors. -/
def errSum (X : Img) (W : Book) : EReal := ∑ r, ∑ c, sqErr W (pixel X r) c

/-- The loss: the mean squared error plus a quarter of it. -/
def loss (X : Img) (W : Book) : EReal :=
  Ideal.div (errSum X W) (Ideal.ofBits .f32 1233125376#32)
    + Ideal.ofBits .f32 1048576000#32 * Ideal.div (errSum X W) (Ideal.ofBits .f32 1233125376#32)

/-- The first result: for the pixel at each place, the number of its nearest codebook row. -/
def resultIndex (X : Img) (W : Book) : IVec ⟨3, ![16, 32, 32]⟩ 32 :=
  fun i => BitVec.ofNat 32 (nearest W (pixel X (pixelNo (i 0) (i 1) (i 2))) : ℕ)

/-- The second result: the images with every pixel's features quantized. -/
def resultPassed (X : Img) (W : Book) : FVec Ideal ⟨4, ![16, 64, 32, 32]⟩ .f32 :=
  fun i => passed W (pixel X (pixelNo (i 0) (i 2) (i 3))) (i 1)

/-- The third result: the loss, a scalar. -/
def resultLoss (X : Img) (W : Book) : FVec Ideal ⟨0, ![]⟩ .f32 := fun _ => loss X W

end Cert.Vq

end
-- ==== Proof.KernelBlock.lean ====
/- What one grid point of the kernel computes from its block `x` of 4096 feature vectors and the codebook `w`. -/
module

public import proofs.«01_k».proof.Proof.Gen.KernelIdeal.Skeleton
public import proofs.«01_k».proof.Proof.Quantize

@[expose] public section

set_option maxRecDepth 16384

noncomputable section

namespace Cert.KernelIdeal.Value

open Cert.KernelIdeal Cert.KernelIdeal.Gen Cert.Vq Idealize.ShloMosaic Idealize.ShloMosaic.TcCoe Idealize.SL.Sem

/-- Row `p` of a block. -/
abbrev row (x : FVec Ideal S4096x64 .f32) (p : Fin 4096) : Fin 64 → EReal := fun c => x (ix2 p c)

/-- The index column, before its conversion to words: the nearest row's number. -/
theorem index_float (x : FVec Ideal S4096x64 .f32) (w : FVec Ideal S1024x64 .f32) (p : Fin 4096) :
    k0_pay5 (F := Ideal) x w (ix2 p (0 : Fin 1)) = (((nearest w (row x p) : ℕ) : ℝ) : EReal) := by
  refine Eq.trans ?_ (fold_min_index fun k => sqDist (row x p) fun c => w (ix2 k c))
  pointwise [k0_pay5, k0_pay4, k0_pay3]
  simp only [ofBits_top, ofBits_2048, sitofp_index]
  rfl

/-- The index column: the nearest row's number as a word. -/
theorem index_word (x : FVec Ideal S4096x64 .f32) (w : FVec Ideal S1024x64 .f32) (p : Fin 4096) :
    k0_pay6 (F := Ideal) x w (ix2 p (0 : Fin 1)) = BitVec.ofNat 32 (nearest w (row x p) : ℕ) := by
  pointwise [k0_pay6]
  rw [index_float, fptosi_index]

/-- The product of a matrix of weights with the codebook, at an entry. -/
theorem weighted (oh : FVec Ideal S4096x1024 .f32) (w : FVec Ideal S1024x64 .f32) (p : Fin 4096) (c : Fin 64) :
    (matmul dot_S4096x1024_S1024x64_S4096x64_1_0_0_1_n_n none (truncf .bf16 oh bitsLt_bf16_f32 : FVec Ideal S4096x1024 .bf16)
        (truncf .bf16 w bitsLt_bf16_f32 : FVec Ideal S1024x64 .bf16) (constant S4096x64 .f32 0x00000000#32)
      : FVec Ideal S4096x64 .f32) (ix2 p c) = ∑ k : Fin 1024, oh (ix2 p k) * w (ix2 k c) := by
  pointwise

/-- The one-hot matrix at an entry. -/
theorem oneHot_entry (g : FVec Ideal S4096x1 .f32) (p : Fin 4096) (k i : Fin 1024)
    (hg : g (ix2 p (0 : Fin 1)) = (((i : ℕ) : ℝ) : EReal)) :
    (sitofp .f32 (extui 32 (cmpf .oeq (k0_pay4 (F := Ideal)) (broadcastTo S4096x1024 g broadcasts_S4096x1_S4096x1024)) natLt_1_32)
      : FVec Ideal S4096x1024 .f32) (ix2 p k) = if k = i then 1 else 0 := by
  pointwise [k0_pay4]
  rw [hg, sitofp_index, oneHot_signed]

/-- The picked row at feature `c`. -/
theorem block_picked (x : FVec Ideal S4096x64 .f32) (w : FVec Ideal S1024x64 .f32) (p : Fin 4096) (c : Fin 64) :
    k0_pay7 (F := Ideal) x w (ix2 p c) = picked w (row x p) c := by
  unfold k0_pay7
  rw [weighted]
  exact Finset.sum_congr rfl fun k _ => congrArg (· * w (ix2 k c)) (oneHot_entry _ p k _ (index_float x w p))

/-- The block of quantized features. -/
theorem block_passed (x : FVec Ideal S4096x64 .f32) (w : FVec Ideal S1024x64 .f32) (p : Fin 4096) (c : Fin 64) :
    k0_pay8 (F := Ideal) x w (ix2 p c) = passed w (row x p) c := by
  pointwise [k0_pay8, k0_pay3]
  rw [block_picked]
  rfl

/-- The block of squared errors. -/
theorem block_sqErr (x : FVec Ideal S4096x64 .f32) (w : FVec Ideal S1024x64 .f32) (p : Fin 4096) (c : Fin 64) :
    k0_pay9 (F := Ideal) x w (ix3 (0 : Fin 1) p c) = sqErr w (row x p) c := by
  pointwise [k0_pay9, k0_pay3]
  rw [block_picked]
  rfl

/-- The running sum's start. -/
theorem start_zero (j : S1x1.Idx) : k0_pay1 (F := Ideal) j = 0 := by
  pointwise [k0_pay1]

/-- One step of the running sum: the block's squared errors are added. -/
theorem step_sum (acc : FVec Ideal S1x1 .f32) (x : FVec Ideal S4096x64 .f32) (w : FVec Ideal S1024x64 .f32) (j : S1x1.Idx) :
    k0_pay2 (k0_pay9 (F := Ideal) x w) acc j = acc j + ∑ p : Fin 4096, ∑ c : Fin 64, sqErr w (row x p) c := by
  pointwise [k0_pay2]
  exact congrArg (acc j + ·) (Finset.sum_congr rfl fun p _ => Finset.sum_congr rfl fun c _ => block_sqErr x w p c)

end Cert.KernelIdeal.Value

end
-- ==== Proof.KernelArray.lean ====
/- What the kernel's three output arrays hold when its grid has run: the nearest rows' numbers, the quantized
   features, and the sum of all squared errors. -/
module

public import proofs.«01_k».proof.Proof.Gen.KernelIdeal.Frame
public import proofs.«01_k».proof.Proof.KernelBlock
public import Idealize.ShloMosaic.Lib.Pipeline.ValueKit
public import Idealize.ShloMosaic.Lib.Claim

@[expose] public section

set_option maxRecDepth 16384

noncomputable section

namespace Cert.KernelIdeal.Value

open Cert.KernelIdeal Cert.KernelIdeal.Gen Cert.Vq Idealize.ShloMosaic Idealize.ShloMosaic.TcCoe Idealize.SL.Sem
open Idealize.ShloMosaic.Pipeline (Dat)

variable (m : (ℓ : Loc nD τ sig) → Buf (Elt Ideal) ℓ)

/-- The images and the codebook that the kernel is launched on. -/
abbrev images (c : Dev nD) : Img := m ((c : Thread nD τ).loc main_arg0)
abbrev codebook (c : Dev nD) : Book := m ((c : Thread nD τ).loc main_arg1)

/-- Block `t` of each window's array: the rows from `4096 * t` on; the codebook and the sum are one block. -/
theorem block_at : ∀ t : Fin cfg0.N, win0_0.index t = ![t.val, 0] ∧ win0_1.index t = ![0, 0] ∧ win0_2.index t = ![t.val, 0]
    ∧ win0_3.index t = ![t.val, 0] ∧ win0_4.index t = ![0, 0] :=
  (by decide +kernel : ∀ t : Fin grid0.N, _)

/-- The rows the host hands to the kernel: pixel `r`'s feature vector. -/
theorem rows_entry (c : Dev nD) (r : Fin 16384) (k : Fin 64) :
    (show FVec Ideal S16384x64 .f32 from V m c main_v1) (ix2 r k) = pixel (images m c) r k := by
  have h : V m c main_v1 = shapeCast S16384x64 (transpose S16x32x32x64 [0, 2, 3, 1] (images m c)
      transposes_S16x64x32x32_S16x32x32x64_0_2_3_1) shapeCasts_S16x32x32x64_S16384x64 := by
    show StableHlo.after hostOps0 (fun b => m (c, b)) (Proc.tc.devRef main_v1) = _
    after_results
    rfl
  rw [h]
  pointwise
  rfl

/-- Row `p` of point `t`'s input block is the feature vector of pixel `4096 * t + p`. -/
theorem block_row (c : Dev nD) (t : Fin cfg0.N) (ht : t.val < 4) (p : Fin 4096) :
    row (show FVec Ideal S4096x64 .f32 from iblk m c 0 t) p = pixel (images m c) ⟨t.val * 4096 + p, by omega⟩ := by
  funext k
  have h : (show FVec Ideal S16384x64 .f32 from V m c main_v1) (ix2 (⟨t.val * 4096 + p, by omega⟩ : Fin 16384) k)
      = pixel (images m c) ⟨t.val * 4096 + p, by omega⟩ k := rows_entry m c _ k
  rw [← h]
  show ((cfg0.win 0).blk t).view.read (Elt Ideal) (V m c main_v1) (ix2 p k)
    = (V m c main_v1) (ix2 (⟨t.val * 4096 + p, by omega⟩ : Fin 16384) k)
  generalize V m c main_v1 = z
  blk_ext [block_at t]

/-- Every point's codebook block is the codebook. -/
theorem block_book (c : Dev nD) (t : Fin cfg0.N) :
    (show FVec Ideal S1024x64 .f32 from iblk m c 1 t) = codebook m c := by
  funext i
  blk_ext [iblk, V, block_at t]

/-- There are four points. -/
theorem point_lt (t : Fin cfg0.N) : t.val < 4 := lt_of_lt_of_eq t.isLt N_0

/-- Point `t`'s index column. -/
theorem point_index (c : Dev nD) (t : Fin cfg0.N) (y : S4096x1.Idx) (r : Fin 16384) (hr : r.val = t.val * 4096 + (y 0).val) :
    k0_pay6 (F := Ideal) (iblk m c 0 t) (iblk m c 1 t) y
      = BitVec.ofNat 32 (nearest (codebook m c) (pixel (images m c) r) : ℕ) := by
  idx_vars y
  have hb : t.val * 4096 + y0.val < 16384 := by have := point_lt t; omega
  rw [show r = ⟨t.val * 4096 + y0.val, hb⟩ from Fin.ext hr]
  obtain rfl : y1 = 0 := Subsingleton.elim _ _
  rw [← block_row m c t (point_lt t), ← block_book m c t]
  exact index_word _ _ _

/-- Point `t`'s block of quantized features. -/
theorem point_passed (c : Dev nD) (t : Fin cfg0.N) (y : S4096x64.Idx) (r : Fin 16384) (k : Fin 64)
    (hr : r.val = t.val * 4096 + (y 0).val) (hk : k.val = (y 1).val) :
    k0_pay8 (F := Ideal) (iblk m c 0 t) (iblk m c 1 t) y = passed (codebook m c) (pixel (images m c) r) k := by
  idx_vars y
  have hb : t.val * 4096 + y0.val < 16384 := by have := point_lt t; omega
  rw [show r = ⟨t.val * 4096 + y0.val, hb⟩ from Fin.ext hr]
  obtain rfl : k = y1 := Fin.ext hk
  rw [← block_row m c t (point_lt t), ← block_book m c t]
  exact block_passed _ _ _ _

/-- Point `t`'s step of the running sum. -/
theorem point_sum (c : Dev nD) (t : Fin cfg0.N) (acc : FVec Ideal S1x1 .f32) (j : S1x1.Idx) :
    k0_pay2 (k0_pay9 (F := Ideal) (iblk m c 0 t) (iblk m c 1 t)) acc j
      = acc j + ∑ p : Fin 4096, ∑ k : Fin 64,
          sqErr (codebook m c) (pixel (images m c) ⟨t.val * 4096 + p, by have := point_lt t; omega⟩) k := by
  refine (step_sum acc _ _ j).trans (congrArg (acc j + ·) ?_)
  refine Finset.sum_congr rfl fun p _ => Finset.sum_congr rfl fun k _ => ?_
  rw [← block_row m c t (point_lt t), ← block_book m c t]

/-- The index array: each pixel's nearest row. -/
theorem final_index (c : Dev nD) :
    (dats m 0 c).arrAt 2 (cfgs 0).N
      = fun i : S16384x1.Idx => BitVec.ofNat 32 (nearest (codebook m c) (pixel (images m c) (i 0)) : ℕ) := by
  refine (dats m 0 c).arrAt_eq_of_covers 2 _ (by decide +kernel) fun t _ y => ?_
  blk_simp
  rw [after0_2]
  by_cases h0 : t.val % 4 = 0
  · rw [outsAt0_A m c t h0]
    frame_out
    exact point_index m c t y _ (by blk_simp [block_at t])
  · rw [outsAt0_B m c t h0]
    frame_out
    exact point_index m c t y _ (by blk_simp [block_at t])

/-- The quantized features, pixel by pixel. -/
theorem final_passed (c : Dev nD) :
    (dats m 0 c).arrAt 3 (cfgs 0).N
      = fun i : S16384x64.Idx => passed (codebook m c) (pixel (images m c) (i 0)) (i 1) := by
  refine (dats m 0 c).arrAt_eq_of_covers 3 _ (by decide +kernel) fun t _ y => ?_
  blk_simp
  rw [after0_3]
  by_cases h0 : t.val % 4 = 0
  · rw [outsAt0_A m c t h0]
    frame_out
    exact point_passed m c t y _ _ (by blk_simp [block_at t]) (by blk_simp [block_at t])
  · rw [outsAt0_B m c t h0]
    frame_out
    exact point_passed m c t y _ _ (by blk_simp [block_at t]) (by blk_simp [block_at t])

/-- The points' shares of the sum make up the sum of all squared errors. -/
theorem sum_points (c : Dev nD) :
    (∑ t : Fin cfg0.N, ∑ p : Fin 4096, ∑ k : Fin 64,
      sqErr (codebook m c) (pixel (images m c) ⟨t.val * 4096 + p, by have := point_lt t; omega⟩) k : EReal)
      = errSum (images m c) (codebook m c) := by
  refine Eq.trans ?_ (sum_blocks fun r => ∑ k, sqErr (codebook m c) (pixel (images m c) r) k).symm
  exact Fintype.sum_equiv (finCongr N_0) _ _ fun t => rfl

/-- The running sum at its end: the sum of all squared errors. -/
theorem final_sum (c : Dev nD) :
    (dats m 0 c).arrAt 4 (cfgs 0).N = fun _ : S1x1.Idx => errSum (images m c) (codebook m c) := by
  refine (dats m 0 c).arrAt_eq_of_after_last 4 t0_3 (by decide +kernel) _ fun j => ?_
  blk_simp
  rw [after0_4, Pipeline.eq_sum_fin_of_reset_step_apply_last (fun n h => (outsAt0 m c n h).2.2) 4 (fun _ => 0)
    (fun t j => ∑ p : Fin 4096, ∑ k : Fin 64,
          sqErr (codebook m c) (pixel (images m c) ⟨t.val * 4096 + p, by have := point_lt t; omega⟩) k)
    (fun t h j => by rw [outsAt0_A m c t h]; frame_out; rw [point_sum, start_zero])
    (fun t h j => by rw [outsAt0_B m c t h]; frame_out; rw [point_sum])
    (le_of_eq N_0) t0_3 rfl j, zero_add]
  exact sum_points m c

end Cert.KernelIdeal.Value

end
-- ==== Proof.KernelRun.lean ====
/- The kernel program's run: its three results as functions of the images and the codebook. -/
module

public import proofs.«01_k».proof.Proof.KernelArray

@[expose] public section

set_option maxRecDepth 16384

noncomputable section

namespace Cert.KernelIdeal.Value

open Cert.KernelIdeal Cert.KernelIdeal.Gen Cert.Vq Idealize.ShloMosaic Idealize.ShloMosaic.TcCoe Idealize.SL.Sem

/-! ## The host operations after the kernel, from any contents before them -/

section Tail
variable (σ : Valuation τ sig (Elt Ideal))

theorem tail_index (a : IVec S16384x1 32) (ha : σ (Proc.devRef .tc main_v2_0) = a) :
    StableHlo.after hostOps1 σ (Proc.devRef .tc main_v3) = shapeCast S16x32x32 a shapeCasts_S16384x1_S16x32x32 := by
  subst ha
  after_results
  rfl

theorem tail_passed (a : FVec Ideal S16384x64 .f32) (ha : σ (Proc.devRef .tc main_v2_1) = a) :
    StableHlo.after hostOps1 σ (Proc.devRef .tc main_v5)
      = transpose S16x64x32x32 [0, 3, 1, 2] (shapeCast S16x32x32x64 a shapeCasts_S16384x64_S16x32x32x64)
          transposes_S16x32x32x64_S16x64x32x32_0_3_1_2 := by
  subst ha
  after_results
  rfl

theorem tail_loss (s : FVec Ideal S1x1 .f32) (hs : σ (Proc.devRef .tc main_v2_2) = s) :
    StableHlo.after hostOps1 σ (Proc.devRef .tc main_v10)
      = addf (Host.divf (Host.divf (shapeCast S_ s shapeCasts_S1x1_S_)
            (constant S_ .f32 0x46800000#32)) (constant S_ .f32 0x42800000#32))
          (mulf (constant S_ .f32 0x3E800000#32) (Host.divf (Host.divf (shapeCast S_ s shapeCasts_S1x1_S_)
            (constant S_ .f32 0x46800000#32)) (constant S_ .f32 0x42800000#32))) := by
  subst hs
  after_results
  rfl

end Tail

/-! ## The three results, from the three output arrays -/

theorem index_at (X : Img) (W : Book) :
    shapeCast S16x32x32 (fun i : S16384x1.Idx => BitVec.ofNat 32 (nearest W (pixel X (i 0)) : ℕ))
      shapeCasts_S16384x1_S16x32x32 = resultIndex X W := by
  funext i
  idx_vars i
  pointwise
  rw [show ∀ h, (⟨(i0 : ℕ) * 1024 + i1 * 32 + i2, h⟩ : Fin 16384) = pixelNo i0 i1 i2 from
    fun h => Fin.ext (by simp only [pixelNo]; omega)]
  rfl

theorem passed_at (X : Img) (W : Book) :
    transpose S16x64x32x32 [0, 3, 1, 2] (shapeCast S16x32x32x64
      (fun i : S16384x64.Idx => passed W (pixel X (i 0)) (i 1)) shapeCasts_S16384x64_S16x32x32x64)
      transposes_S16x32x32x64_S16x64x32x32_0_3_1_2 = resultPassed X W := by
  funext i
  idx_vars i
  pointwise
  rw [show ∀ h, (⟨(i0 : ℕ) * 1024 + i2 * 32 + i3, h⟩ : Fin 16384) = pixelNo i0 i2 i3 from
    fun h => Fin.ext (by simp only [pixelNo]; omega)]
  rfl

theorem loss_at (X : Img) (W : Book) (s : FVec Ideal S1x1 .f32) (hs : s = fun _ => errSum X W) :
    addf (Host.divf (Host.divf (shapeCast S_ s shapeCasts_S1x1_S_)
          (constant S_ .f32 0x46800000#32)) (constant S_ .f32 0x42800000#32))
        (mulf (constant S_ .f32 0x3E800000#32) (Host.divf (Host.divf (shapeCast S_ s shapeCasts_S1x1_S_)
          (constant S_ .f32 0x46800000#32)) (constant S_ .f32 0x42800000#32))) = resultLoss X W := by
  funext i
  pointwise
  rw [hs, div_div_count]
  rfl

/-! ## What the program leaves -/

variable (m : (ℓ : Loc nD τ sig) → Buf (Elt Ideal) ℓ) (c : Dev nD)

/-- Two output windows never share an array. -/
theorem arrays_distinct : Function.Injective (Pipeline.arrRef spec0) := by decide

/-- The program's first result: the nearest row's number at every place. -/
theorem result_index : Pipeline.afterTail₀ cfgs (dats m) 0 (V0 m) [hostOps1] c main_v3
    = resultIndex (images m c) (codebook m c) :=
  (tail_index _ _ ((Pipeline.withArrays_arr spec0 arrays_distinct c (V0 m c) _ 2).trans (final_index m c))).trans
    (index_at _ _)

/-- The program's second result: the quantized images. -/
theorem result_passed : Pipeline.afterTail₀ cfgs (dats m) 0 (V0 m) [hostOps1] c main_v5
    = resultPassed (images m c) (codebook m c) :=
  (tail_passed _ _ ((Pipeline.withArrays_arr spec0 arrays_distinct c (V0 m c) _ 3).trans (final_passed m c))).trans
    (passed_at _ _)

/-- The program's third result: the loss. -/
theorem result_loss : Pipeline.afterTail₀ cfgs (dats m) 0 (V0 m) [hostOps1] c main_v10
    = resultLoss (images m c) (codebook m c) :=
  (tail_loss _ _ (Pipeline.withArrays_arr spec0 arrays_distinct c (V0 m c) _ 4)).trans
    (loss_at _ _ _ (final_sum m c))

/-- Every run ends with the three results and the arguments unchanged. -/
theorem run (g : Dev nD → PrngReg) :
    θ_run (defs (F := Ideal)) (onTc (τ := τ) (main (F := Ideal))) ⟨m, fun _ => 0, g⟩ fun r => ∀ c : Dev nD,
      r.2.mem ((c.tc : Thread nD τ).loc main_v3) = resultIndex (images m c) (codebook m c)
      ∧ r.2.mem ((c.tc : Thread nD τ).loc main_v5) = resultPassed (images m c) (codebook m c)
      ∧ r.2.mem ((c.tc : Thread nD τ).loc main_v10) = resultLoss (images m c) (codebook m c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  run_from Cert.KernelIdeal.Gen.run_main m g
  · exact result_index m c
  · exact result_passed m c
  · exact result_loss m c
  · exact W_main_arg0 m _ c

end Cert.KernelIdeal.Value

end
-- ==== Proof.RefRun.lean ====
/- The reference program's run: it leaves its three results as the composed terms below, and its arguments as they
   were. -/
module

public import proofs.«01_k».proof.Defs
public import proofs.«01_k».proof.Proof.Gen.ReferenceIdeal
public import Idealize.ShloMosaic.Lib.Claim

@[expose] public section

set_option maxRecDepth 16384

noncomputable section

namespace Cert.ReferenceIdeal.Value

open Cert.ReferenceIdeal Cert.ReferenceIdeal.Facts₀ Idealize.ShloMosaic Idealize.ShloMosaic.TcCoe
open Idealize.ShloMosaic.StableHlo Idealize.SL.Sem

/-! ## The reference's values, step by step -/

section Terms
variable (X : FVec Ideal S16x64x32x32 .f32) (W : FVec Ideal S1024x64 .f32)

/-- The images with the features last. -/
def last : FVec Ideal S16x32x32x64 .f32 :=
  transpose S16x32x32x64 [0, 2, 3, 1] X transposes_S16x64x32x32_S16x32x32x64_0_2_3_1

/-- The pixels' feature vectors, one in each row. -/
def rows : FVec Ideal S16384x64 .f32 := shapeCast S16384x64 (last X) shapeCasts_S16x32x32x64_S16384x64

/-- The squared distances of every pixel from every codebook row. -/
def dist : FVec Ideal S16384x1024 .f32 :=
  addf
    (subf
      (broadcastInDim S16384x1024 ![0, 1] bcast_S16384x1_S16384x1024_0_1
        (broadcastInDim S16384x1 ![0] bcast_S16384_S16384x1_0
          (Host.reduceAdd (mulf (rows X) (rows X)) (constant S_ .f32 0x00000000#32) reducesTo_S16384x64_S16384_d1 h_S_)))
      (mulf (broadcastInDim S16384x1024 ![] bcast_S_S16384x1024 (constant S_ .f32 0x40000000#32))
        (Host.dotGeneral dot_S16384x64_S64x1024_S16384x1024_1_0_0_1_n_n none (rows X)
          (transpose S64x1024 [1, 0] W transposes_S1024x64_S64x1024_1_0))))
    (broadcastInDim S16384x1024 ![0, 1] bcast_S1x1024_S16384x1024_0_1
      (broadcastInDim S1x1024 ![1] bcast_S1024_S1x1024_1
        (Host.reduceAdd (mulf W W) (constant S_ .f32 0x00000000#32) reducesTo_S1024x64_S1024_d1 h_S_)))

/-- Every pixel's nearest row, by the two-result reduction of the distances with their column numbers. -/
def choice (d : FVec Ideal S16384x1024 .f32) : IVec S16384 32 := fun j =>
  (Host.argReduce reducer_argmin_f32_i32 d (iotaInDim S16384x1024 32 1) (constant S_ .f32 0x7F800000#32)
    (constantI S_ 32 0#32) reducesTo_S16384x1024_S16384_d1 h_S_ j).2

/-- The one-hot rows of the choices. -/
def oneHot (n : IVec S16384 32) : FVec Ideal S16384x1024 .f32 :=
  uitofp .f32 (cmpi .eq
    (broadcastInDim S16384x1024 ![0, 1] bcast_S16384x1_S16384x1024_0_1
      (broadcastInDim S16384x1 ![0] bcast_S16384_S16384x1_0 n))
    (broadcastInDim S16384x1024 ![0, 1] bcast_S1x1024_S16384x1024_0_1 (iotaInDim S1x1024 32 1)))

/-- The chosen rows, laid out as the images with the features last. -/
def chosen (n : IVec S16384 32) : FVec Ideal S16x32x32x64 .f32 :=
  shapeCast S16x32x32x64
    (Host.dotGeneral dot_S16384x1024_S1024x64_S16384x64_1_0_0_1_n_n none (oneHot n) W)
    shapeCasts_S16384x64_S16x32x32x64

/-- The mean of the squared differences of two arrays. -/
def meanSq (q x : FVec Ideal S16x32x32x64 .f32) : FVec Ideal S_ .f32 :=
  Host.divf (Host.reduceAdd (mulf (subf q x) (subf q x)) (constant S_ .f32 0x00000000#32)
    reducesTo_S16x32x32x64_S_d0_1_2_3 h_S_) (constant S_ .f32 0x49800000#32)

/-- The first result. -/
def outIndex : IVec S16x32x32 32 := shapeCast S16x32x32 (choice (dist X W)) shapeCasts_S16384_S16x32x32

/-- The second result. -/
def outPassed : FVec Ideal S16x64x32x32 .f32 :=
  transpose S16x64x32x32 [0, 3, 1, 2]
    (addf (last X) (subf (chosen W (choice (dist X W))) (last X))) transposes_S16x32x32x64_S16x64x32x32_0_3_1_2

/-- The third result. -/
def outLoss : FVec Ideal S_ .f32 :=
  addf (meanSq (chosen W (choice (dist X W))) (last X))
    (mulf (constant S_ .f32 0x3E800000#32) (meanSq (chosen W (choice (dist X W))) (last X)))

end Terms

/-! ## The operations, in four stretches -/

section Operations
variable {F : FTy → Type} [FloatOps F]

/-- The operations that compute the distances. -/
abbrev opsDist : List (HloOp τ sig (Elt F)) :=
  [ unary main_arg0 main_v0 ((transpose S16x32x32x64 [0, 2, 3, 1] · transposes_S16x64x32x32_S16x32x32x64_0_2_3_1) : (⟨S16x64x32x32, .f32⟩ : BufTy).Contents (Elt F) → (⟨S16x32x32x64, .f32⟩ : BufTy).Contents (Elt F)),
    reshape main_v0 main_v1 (rfl : (.f32 : EltTy) = .f32) shapeCasts_S16x32x32x64_S16384x64,
    binary main_v1 main_v1 main_v2 (mulf : (⟨S16384x64, .f32⟩ : BufTy).Contents (Elt F) → (⟨S16384x64, .f32⟩ : BufTy).Contents (Elt F) → (⟨S16384x64, .f32⟩ : BufTy).Contents (Elt F)),
    nullary main_cst (constant S_ .f32 0x00000000#32),
    binary main_v2 main_cst main_v3 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    unary main_v3 main_v4 (broadcastInDim S16384x1 ![0] bcast_S16384_S16384x1_0 : (⟨S16384, .f32⟩ : BufTy).Contents (Elt F) → (⟨S16384x1, .f32⟩ : BufTy).Contents (Elt F)),
    unary main_arg1 main_v5 ((transpose S64x1024 [1, 0] · transposes_S1024x64_S64x1024_1_0) : (⟨S1024x64, .f32⟩ : BufTy).Contents (Elt F) → (⟨S64x1024, .f32⟩ : BufTy).Contents (Elt F)),
    binary main_v1 main_v5 main_v6 ((fun l r => Host.dotGeneral dot_S16384x64_S64x1024_S16384x1024_1_0_0_1_n_n none l r) : (⟨S16384x64, .f32⟩ : BufTy).Contents (Elt F) → (⟨S64x1024, .f32⟩ : BufTy).Contents (Elt F) → (⟨S16384x1024, .f32⟩ : BufTy).Contents (Elt F)),
    nullary main_cst_0 (constant S_ .f32 0x40000000#32),
    unary main_cst_0 main_v7 (broadcastInDim S16384x1024 ![] bcast_S_S16384x1024 : (⟨S_, .f32⟩ : BufTy).Contents (Elt F) → (⟨S16384x1024, .f32⟩ : BufTy).Contents (Elt F)),
    binary main_v7 main_v6 main_v8 (mulf : (⟨S16384x1024, .f32⟩ : BufTy).Contents (Elt F) → (⟨S16384x1024, .f32⟩ : BufTy).Contents (Elt F) → (⟨S16384x1024, .f32⟩ : BufTy).Contents (Elt F)),
    unary main_v4 main_v9 (broadcastInDim S16384x1024 ![0, 1] bcast_S16384x1_S16384x1024_0_1 : (⟨S16384x1, .f32⟩ : BufTy).Contents (Elt F) → (⟨S16384x1024, .f32⟩ : BufTy).Contents (Elt F)),
    binary main_v9 main_v8 main_v10 (subf : (⟨S16384x1024, .f32⟩ : BufTy).Contents (Elt F) → (⟨S16384x1024, .f32⟩ : BufTy).Contents (Elt F) → (⟨S16384x1024, .f32⟩ : BufTy).Contents (Elt F)),
    binary main_arg1 main_arg1 main_v11 (mulf : (⟨S1024x64, .f32⟩ : BufTy).Contents (Elt F) → (⟨S1024x64, .f32⟩ : BufTy).Contents (Elt F) → (⟨S1024x64, .f32⟩ : BufTy).Contents (Elt F)),
    nullary main_cst_1 (constant S_ .f32 0x00000000#32),
    binary main_v11 main_cst_1 main_v12 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v12 main_v13 (broadcastInDim S1x1024 ![1] bcast_S1024_S1x1024_1 : (⟨S1024, .f32⟩ : BufTy).Contents (Elt F) → (⟨S1x1024, .f32⟩ : BufTy).Contents (Elt F)),
    unary main_v13 main_v14 (broadcastInDim S16384x1024 ![0, 1] bcast_S1x1024_S16384x1024_0_1 : (⟨S1x1024, .f32⟩ : BufTy).Contents (Elt F) → (⟨S16384x1024, .f32⟩ : BufTy).Contents (Elt F)),
    binary main_v10 main_v14 main_v15 (addf : (⟨S16384x1024, .f32⟩ : BufTy).Contents (Elt F) → (⟨S16384x1024, .f32⟩ : BufTy).Contents (Elt F) → (⟨S16384x1024, .f32⟩ : BufTy).Contents (Elt F)) ]

/-- The operations that choose the nearest rows. -/
abbrev opsChoice : List (HloOp τ sig (Elt F)) :=
  [ TRef.nullary main_call0.v0 (iotaInDim S16384x1024 32 1),
    TRef.nullary main_call0.cst (constant S_ .f32 0x7F800000#32),
    TRef.nullary main_call0.c (constantI S_ 32 0#32),
    TRef.quaternary (TRef.of (T := ⟨S16384x1024, .f32⟩) main_v15) main_call0.v0 main_call0.cst main_call0.c main_call0.v1_0 (fun x y u v j => (Host.argReduce reducer_argmin_f32_i32 x y u v reducesTo_S16384x1024_S16384_d1 h_S_ j).1),
    TRef.quaternary (TRef.of (T := ⟨S16384x1024, .f32⟩) main_v15) main_call0.v0 main_call0.cst main_call0.c main_call0.v1_1 (fun x y u v j => (Host.argReduce reducer_argmin_f32_i32 x y u v reducesTo_S16384x1024_S16384_d1 h_S_ j).2) ]

/-- The operations that gather the chosen rows. -/
abbrev opsChosen : List (HloOp τ sig (Elt F)) :=
  [ TRef.unary (TRef.of (T := ⟨S16384, .i32⟩) main_v16) main_call1.v0 (broadcastInDim S16384x1 ![0] bcast_S16384_S16384x1_0),
    TRef.nullary main_call1.v1 (iotaInDim S1x1024 32 1),
    TRef.unary main_call1.v0 main_call1.v2 (broadcastInDim S16384x1024 ![0, 1] bcast_S16384x1_S16384x1024_0_1),
    TRef.unary main_call1.v1 main_call1.v3 (broadcastInDim S16384x1024 ![0, 1] bcast_S1x1024_S16384x1024_0_1),
    TRef.binary main_call1.v2 main_call1.v3 main_call1.v4 (cmpi .eq),
    TRef.unary main_call1.v4 main_call1.v5 (uitofp .f32),
    binary main_v17 main_arg1 main_v18 ((fun l r => Host.dotGeneral dot_S16384x1024_S1024x64_S16384x64_1_0_0_1_n_n none l r) : (⟨S16384x1024, .f32⟩ : BufTy).Contents (Elt F) → (⟨S1024x64, .f32⟩ : BufTy).Contents (Elt F) → (⟨S16384x64, .f32⟩ : BufTy).Contents (Elt F)),
    reshape main_v18 main_v19 (rfl : (.f32 : EltTy) = .f32) shapeCasts_S16384x64_S16x32x32x64 ]

/-- The operations that form the results. -/
abbrev opsOut : List (HloOp τ sig (Elt F)) :=
  [ binary main_v19 main_v0 main_v20 (subf : (⟨S16x32x32x64, .f32⟩ : BufTy).Contents (Elt F) → (⟨S16x32x32x64, .f32⟩ : BufTy).Contents (Elt F) → (⟨S16x32x32x64, .f32⟩ : BufTy).Contents (Elt F)),
    binary main_v20 main_v20 main_v21 (mulf : (⟨S16x32x32x64, .f32⟩ : BufTy).Contents (Elt F) → (⟨S16x32x32x64, .f32⟩ : BufTy).Contents (Elt F) → (⟨S16x32x32x64, .f32⟩ : BufTy).Contents (Elt F)),
    nullary main_cst_2 (constant S_ .f32 0x00000000#32),
    binary main_v21 main_cst_2 main_v22 ((fun x v => Host.reduceAdd x v reducesTo_S16x32x32x64_S_d0_1_2_3 h_S_) : (⟨S16x32x32x64, .f32⟩ : BufTy).Contents (Elt F) → (⟨S_, .f32⟩ : BufTy).Contents (Elt F) → (⟨S_, .f32⟩ : BufTy).Contents (Elt F)),
    nullary main_cst_3 (constant S_ .f32 0x49800000#32),
    binary main_v22 main_cst_3 main_v23 (Host.divf : (⟨S_, .f32⟩ : BufTy).Contents (Elt F) → (⟨S_, .f32⟩ : BufTy).Contents (Elt F) → (⟨S_, .f32⟩ : BufTy).Contents (Elt F)),
    binary main_v19 main_v0 main_v24 (subf : (⟨S16x32x32x64, .f32⟩ : BufTy).Contents (Elt F) → (⟨S16x32x32x64, .f32⟩ : BufTy).Contents (Elt F) → (⟨S16x32x32x64, .f32⟩ : BufTy).Contents (Elt F)),
    binary main_v24 main_v24 main_v25 (mulf : (⟨S16x32x32x64, .f32⟩ : BufTy).Contents (Elt F) → (⟨S16x32x32x64, .f32⟩ : BufTy).Contents (Elt F) → (⟨S16x32x32x64, .f32⟩ : BufTy).Contents (Elt F)),
    nullary main_cst_4 (constant S_ .f32 0x00000000#32),
    binary main_v25 main_cst_4 main_v26 ((fun x v => Host.reduceAdd x v reducesTo_S16x32x32x64_S_d0_1_2_3 h_S_) : (⟨S16x32x32x64, .f32⟩ : BufTy).Contents (Elt F) → (⟨S_, .f32⟩ : BufTy).Contents (Elt F) → (⟨S_, .f32⟩ : BufTy).Contents (Elt F)),
    nullary main_cst_5 (constant S_ .f32 0x49800000#32),
    binary main_v26 main_cst_5 main_v27 (Host.divf : (⟨S_, .f32⟩ : BufTy).Contents (Elt F) → (⟨S_, .f32⟩ : BufTy).Contents (Elt F) → (⟨S_, .f32⟩ : BufTy).Contents (Elt F)),
    nullary main_cst_6 (constant S_ .f32 0x3E800000#32),
    binary main_cst_6 main_v23 main_v28 (mulf : (⟨S_, .f32⟩ : BufTy).Contents (Elt F) → (⟨S_, .f32⟩ : BufTy).Contents (Elt F) → (⟨S_, .f32⟩ : BufTy).Contents (Elt F)),
    binary main_v27 main_v28 main_v29 (addf : (⟨S_, .f32⟩ : BufTy).Contents (Elt F) → (⟨S_, .f32⟩ : BufTy).Contents (Elt F) → (⟨S_, .f32⟩ : BufTy).Contents (Elt F)),
    binary main_v19 main_v0 main_v30 (subf : (⟨S16x32x32x64, .f32⟩ : BufTy).Contents (Elt F) → (⟨S16x32x32x64, .f32⟩ : BufTy).Contents (Elt F) → (⟨S16x32x32x64, .f32⟩ : BufTy).Contents (Elt F)),
    binary main_v0 main_v30 main_v31 (addf : (⟨S16x32x32x64, .f32⟩ : BufTy).Contents (Elt F) → (⟨S16x32x32x64, .f32⟩ : BufTy).Contents (Elt F) → (⟨S16x32x32x64, .f32⟩ : BufTy).Contents (Elt F)),
    reshape main_v16 main_v32 (rfl : (.i32 : EltTy) = .i32) shapeCasts_S16384_S16x32x32,
    unary main_v31 main_v33 ((transpose S16x64x32x32 [0, 3, 1, 2] · transposes_S16x32x32x64_S16x64x32x32_0_3_1_2) : (⟨S16x32x32x64, .f32⟩ : BufTy).Contents (Elt F) → (⟨S16x64x32x32, .f32⟩ : BufTy).Contents (Elt F)) ]

/-- The program is the four stretches in turn. -/
theorem main_eq (c : Dev nD) : main (F := F) c = seq (opsDist ++ (opsChoice ++ (opsChosen ++ opsOut))) := rfl

/-- Every operation is on the device's own arrays. -/
theorem ops_local : List.Forall (fun op : HloOp τ sig (Elt F) => op.bufs ⊆ tcRefs τ sig)
    (opsDist ++ (opsChoice ++ (opsChosen ++ opsOut))) := by
  simp

/-- Every operation determines its results. -/
theorem ops_fresh : ∀ op ∈ opsDist (F := F) ++ (opsChoice ++ (opsChosen ++ opsOut)), op.fresh = ∅ := by
  intro _ h
  (repeat (cases h with | head => rfl | tail _ h => ?_))
  exact nomatch h

end Operations

/-! ## What each stretch leaves, from any contents before it -/

section Stretches
variable (σ : Valuation τ sig (Elt Ideal))

theorem dist_last (X : FVec Ideal S16x64x32x32 .f32) (hX : σ (Proc.devRef .tc main_arg0) = X) :
    after (opsDist (F := Ideal)) σ (Proc.devRef .tc main_v0) = last X := by
  subst hX
  after_results
  rfl

theorem dist_dist (X : FVec Ideal S16x64x32x32 .f32) (W : FVec Ideal S1024x64 .f32)
    (hX : σ (Proc.devRef .tc main_arg0) = X) (hW : σ (Proc.devRef .tc main_arg1) = W) :
    after (opsDist (F := Ideal)) σ (Proc.devRef .tc main_v15) = dist X W := by
  subst hX hW
  after_results
  rfl

theorem dist_arg0 : after (opsDist (F := Ideal)) σ (Proc.devRef .tc main_arg0) = σ (Proc.devRef .tc main_arg0) := by
  after_results
theorem dist_arg1 : after (opsDist (F := Ideal)) σ (Proc.devRef .tc main_arg1) = σ (Proc.devRef .tc main_arg1) := by
  after_results

theorem choice_choice (d : FVec Ideal S16384x1024 .f32) (hd : σ (Proc.devRef .tc main_v15) = d) :
    after (opsChoice (F := Ideal)) σ (Proc.devRef .tc main_v16) = choice d := by
  subst hd
  after_results
  rfl

theorem choice_last : after (opsChoice (F := Ideal)) σ (Proc.devRef .tc main_v0) = σ (Proc.devRef .tc main_v0) := by
  after_results
theorem choice_arg0 : after (opsChoice (F := Ideal)) σ (Proc.devRef .tc main_arg0) = σ (Proc.devRef .tc main_arg0) := by
  after_results
theorem choice_arg1 : after (opsChoice (F := Ideal)) σ (Proc.devRef .tc main_arg1) = σ (Proc.devRef .tc main_arg1) := by
  after_results

theorem chosen_chosen (W : FVec Ideal S1024x64 .f32) (n : IVec S16384 32)
    (hW : σ (Proc.devRef .tc main_arg1) = W) (hn : σ (Proc.devRef .tc main_v16) = n) :
    after (opsChosen (F := Ideal)) σ (Proc.devRef .tc main_v19) = chosen W n := by
  subst hW hn
  after_results
  rfl

theorem chosen_last : after (opsChosen (F := Ideal)) σ (Proc.devRef .tc main_v0) = σ (Proc.devRef .tc main_v0) := by
  after_results
theorem chosen_choice : after (opsChosen (F := Ideal)) σ (Proc.devRef .tc main_v16) = σ (Proc.devRef .tc main_v16) := by
  after_results
theorem chosen_arg0 : after (opsChosen (F := Ideal)) σ (Proc.devRef .tc main_arg0) = σ (Proc.devRef .tc main_arg0) := by
  after_results
theorem chosen_arg1 : after (opsChosen (F := Ideal)) σ (Proc.devRef .tc main_arg1) = σ (Proc.devRef .tc main_arg1) := by
  after_results

theorem out_index (n : IVec S16384 32) (hn : σ (Proc.devRef .tc main_v16) = n) :
    after (opsOut (F := Ideal)) σ (Proc.devRef .tc main_v32) = shapeCast S16x32x32 n shapeCasts_S16384_S16x32x32 := by
  subst hn
  after_results
  rfl

theorem out_passed (q x : FVec Ideal S16x32x32x64 .f32) (hq : σ (Proc.devRef .tc main_v19) = q)
    (hx : σ (Proc.devRef .tc main_v0) = x) :
    after (opsOut (F := Ideal)) σ (Proc.devRef .tc main_v33)
      = transpose S16x64x32x32 [0, 3, 1, 2] (addf x (subf q x)) transposes_S16x32x32x64_S16x64x32x32_0_3_1_2 := by
  subst hq hx
  after_results

theorem out_loss (q x : FVec Ideal S16x32x32x64 .f32) (hq : σ (Proc.devRef .tc main_v19) = q)
    (hx : σ (Proc.devRef .tc main_v0) = x) :
    after (opsOut (F := Ideal)) σ (Proc.devRef .tc main_v29)
      = addf (meanSq q x) (mulf (constant S_ .f32 0x3E800000#32) (meanSq q x)) := by
  subst hq hx
  after_results
  rfl

theorem out_arg0 : after (opsOut (F := Ideal)) σ (Proc.devRef .tc main_arg0) = σ (Proc.devRef .tc main_arg0) := by
  after_results
theorem out_arg1 : after (opsOut (F := Ideal)) σ (Proc.devRef .tc main_arg1) = σ (Proc.devRef .tc main_arg1) := by
  after_results

end Stretches

/-! ## The run -/

variable (m : (ℓ : Loc nD τ sig) → Buf (Elt Ideal) ℓ) (g : Dev nD → PrngReg)

/-- Every run ends with the three results and the arguments unchanged. -/
theorem run : θ_run (defs (F := Ideal)) (onTc (τ := τ) (main (F := Ideal))) ⟨m, fun _ => 0, g⟩ fun r => ∀ c : Dev nD,
      r.2.mem ((c.tc : Thread nD τ).loc main_v32)
        = outIndex (m ((c.tc : Thread nD τ).loc main_arg0)) (m ((c.tc : Thread nD τ).loc main_arg1))
      ∧ r.2.mem ((c.tc : Thread nD τ).loc main_v33)
        = outPassed (m ((c.tc : Thread nD τ).loc main_arg0)) (m ((c.tc : Thread nD τ).loc main_arg1))
      ∧ r.2.mem ((c.tc : Thread nD τ).loc main_v29)
        = outLoss (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => by
      have h' : ∀ b : Ref sig .tc, r.2.mem ((c.tc : Thread nD τ).loc b)
          = after opsOut (after opsChosen (after opsChoice (after opsDist (launchContents m c)))) (Proc.devRef .tc b) :=
        fun b => h c b
      have hX : launchContents m c (Proc.devRef .tc main_arg0) = m ((c.tc : Thread nD τ).loc main_arg0) := rfl
      have hW : launchContents m c (Proc.devRef .tc main_arg1) = m ((c.tc : Thread nD τ).loc main_arg1) := rfl
      generalize launchContents m c = σ at h' hX hW
      have e0 := dist_last σ _ hX
      have e1 := choice_choice (after opsDist σ) _ (dist_dist σ _ _ hX hW)
      have e2 := chosen_chosen (after opsChoice (after opsDist σ)) _ _
        ((choice_arg1 (after opsDist σ)).trans ((dist_arg1 σ).trans hW)) e1
      have e3 := (chosen_last (after opsChoice (after opsDist σ))).trans ((choice_last (after opsDist σ)).trans e0)
      refine ⟨(h' _).trans (out_index _ _ ((chosen_choice _).trans e1)), (h' _).trans (out_passed _ _ _ e2 e3),
        (h' _).trans (out_loss _ _ _ e2 e3), (h' _).trans ?_, (h' _).trans ?_⟩
      · rw [out_arg0, chosen_arg0, choice_arg0, dist_arg0, hX]
      · rw [out_arg1, chosen_arg1, choice_arg1, dist_arg1, hW])
    (run_seq (by decide) (by decide) defs main (fun _ => opsDist ++ (opsChoice ++ (opsChosen ++ opsOut)))
      main_eq (fun _ => ops_local) m g (fun _ => ops_fresh))

/-- The reference's frame: the arguments end unchanged, and it has no semaphore. -/
theorem frame : quiescent_ReferenceIdeal := fun m g _ =>
  (θ_run _ _ _).mono (fun r h => ⟨fun c => ⟨(h c).2.2.2.1, (h c).2.2.2.2⟩,
    sem_eq_zero_of_no_sems (by decide) r.2⟩) (run m g)

end Cert.ReferenceIdeal.Value

end
-- ==== Proof.ColumnFold.lean ====
/- The pairs that a reduction over the columns of a table folds, at any number of rows and columns: those of a row,
   every column once. -/
module

public import proofs.«01_k».proof.Proof.FirstMin
public import Idealize.ShloMosaic.Lib.Pointwise
public import Idealize.ShloMosaic.PureOps

@[expose] public section

noncomputable section

namespace Cert.Vq

open Idealize.ShloMosaic

section
variable {R K : ℕ} (h : (⟨2, ![R, K]⟩ : Shape).ReducesTo [1] ⟨1, ![R]⟩)

/-- A place of the table, its column dropped, is its row. -/
theorem drop_column (i : (⟨2, ![R, K]⟩ : Shape).Idx) : h.drop i = ix1 (i 0) := by
  funext b
  obtain rfl : b = 0 := Subsingleton.elim (α := Fin 1) b 0
  refine Fin.ext ?_
  rfl

/-- The column number of the table's `n`-th place. -/
def columnOf (n : Fin (⟨2, ![R, K]⟩ : Shape).numel) : Fin K := (⟨2, ![R, K]⟩ : Shape).rowMajor.symm n 1

/-- The columns of row `r`, in the order a reduction takes them. -/
def columns (r : Fin R) : List (Fin K) :=
  ((List.finRange (⟨2, ![R, K]⟩ : Shape).numel).filter fun n =>
    h.drop ((⟨2, ![R, K]⟩ : Shape).rowMajor.symm n) = ix1 r).map columnOf

/-- Every column is among them. -/
theorem mem_columns (r : Fin R) (k : Fin K) : k ∈ columns h r := by
  refine List.mem_map.2 ⟨(⟨2, ![R, K]⟩ : Shape).rowMajor (ix2 r k), List.mem_filter.2 ⟨List.mem_finRange _, ?_⟩, ?_⟩
  · rw [decide_eq_true_iff, Equiv.symm_apply_apply, drop_column]
    rfl
  · unfold columnOf
    rw [Equiv.symm_apply_apply]
    rfl

/-- The pairs of row `r`, taken from two tables, are its columns' entries. -/
theorem row_pairs {α β : Type} (x : (⟨2, ![R, K]⟩ : Shape).Idx → α) (y : (⟨2, ![R, K]⟩ : Shape).Idx → β) (r : Fin R) :
    Host.argReduceFiber x y h (ix1 r) = (columns h r).map fun k => (x (ix2 r k), y (ix2 r k)) := by
  unfold Host.argReduceFiber columns
  refine Eq.trans ?_ List.map_map.symm
  refine List.map_congr_left fun n hn => ?_
  have e := of_decide_eq_true (List.mem_filter.1 hn).2
  rw [drop_column] at e
  have e0 : (⟨2, ![R, K]⟩ : Shape).rowMajor.symm n 0 = r := congrFun e 0
  have e1 : (⟨2, ![R, K]⟩ : Shape).rowMajor.symm n = ix2 r (columnOf n) := by
    rw [← e0]
    exact eq_ix2 _
  exact Prod.ext (congrArg x e1) (congrArg y e1)

/-- A reduction of two tables over the columns is the fold over a row's columns. -/
theorem reduce_row {φ : FTy} {β : Type} {u : Shape} (f : Ideal φ × β → Ideal φ × β → Ideal φ × β)
    (x : FVec Ideal ⟨2, ![R, K]⟩ φ) (y : (⟨2, ![R, K]⟩ : Shape).Idx → β) (ix : u.Idx → Ideal φ) (iy : u.Idx → β)
    (hu : 0 < u.numel) (r : Fin R) :
    Host.argReduce f x y ix iy h hu (ix1 r)
      = (columns h r).foldl (fun s k => f s (x (ix2 r k), y (ix2 r k)))
          (ix (Shape.Idx.first hu), iy (Shape.Idx.first hu)) := by
  rw [Ideal.argReduce_eq_reduce2, Host.reduce2_eq_foldl_fiber, row_pairs, List.foldl_map]
end

/-- A reduction of the columns' values and numbers that keeps the smaller value ends with the number of the first
    smallest value. -/
theorem reduce_first {R : ℕ} (h : (⟨2, ![R, 1024]⟩ : Shape).ReducesTo [1] ⟨1, ![R]⟩) {u : Shape}
    {f : EReal × BitVec 32 → EReal × BitVec 32 → EReal × BitVec 32} (hf : Keeps f)
    (x : FVec Ideal ⟨2, ![R, 1024]⟩ .f32) (y : IVec ⟨2, ![R, 1024]⟩ 32) (ix : FVec Ideal u .f32) (iy : IVec u 32)
    (hu : 0 < u.numel) (r : Fin R) (hx : ix (Shape.Idx.first hu) = (⊤ : EReal)) (hy : iy (Shape.Idx.first hu) = 0#32)
    (hk : ∀ k, y (ix2 r k) = BitVec.ofNat 32 (k : ℕ)) :
    (Host.argReduce (F := Ideal) (φ := .f32) f x y ix iy h hu (ix1 r)).2
      = BitVec.ofNat 32 (firstMin fun k => x (ix2 r k) : ℕ) := by
  rw [reduce_row]
  simp only [hx, hy, hk]
  exact foldl_keeps_eq hf _ _ (mem_columns h r)

end Cert.Vq

end
-- ==== Proof.RefArgmin.lean ====
/- The reference's choice of the nearest row: the reduction that carries a distance and its column number together
   ends, in every row, with the number of the first column whose distance is smallest. -/
module

public import proofs.«01_k».proof.Proof.RefRun
public import proofs.«01_k».proof.Proof.Quantize
public import proofs.«01_k».proof.Proof.ColumnFold

@[expose] public section

noncomputable section

namespace Cert.ReferenceIdeal.Value

open Cert.ReferenceIdeal Cert.ReferenceIdeal.Facts₀ Cert.Vq Idealize.ShloMosaic

/-- The comparisons the reducer makes, on the extended reals. -/
theorem olt_one {x y : Ideal .f32} (h : x < y) : FloatOps.cmpf .olt x y = 1#1 := by
  simp [Ideal.cmpf_def, Ideal.cmp, h]
theorem olt_zero {x y : Ideal .f32} (h : y ≤ x) : FloatOps.cmpf .olt x y = 0#1 := by
  simp [Ideal.cmpf_def, Ideal.cmp, not_lt.2 h]
theorem oeq_one (x : Ideal .f32) : FloatOps.cmpf .oeq x x = 1#1 := by
  simp [Ideal.cmpf_def, Ideal.cmp]
theorem oeq_zero {x y : Ideal .f32} (h : x ≠ y) : FloatOps.cmpf .oeq x y = 0#1 := by
  simp [Ideal.cmpf_def, Ideal.cmp, h]
theorem une_zero (x : Ideal .f32) : FloatOps.cmpf .une x x = 0#1 := by
  simp [Ideal.cmpf_def, Ideal.cmp]

/-- The reducer keeps the pair of smaller value, and of two with equal values the smaller number. -/
theorem reducer_keeps : Keeps (reducer_argmin_f32_i32 (F := Ideal)) where
  lt a b h := by
    simp [reducer_argmin_f32_i32, olt_one h, oeq_zero h.ne, une_zero, Scalar.select, IntOp.ori, IntOp.andi]
  gt a b h := by
    simp [reducer_argmin_f32_i32, olt_zero h.le, oeq_zero h.ne', une_zero, Scalar.select, IntOp.ori, IntOp.andi]
  eq a b h := by
    obtain ⟨x, i⟩ := a
    obtain ⟨y, j⟩ := b
    obtain rfl : x = y := h
    by_cases hij : i.toInt < j.toInt <;>
      simp [reducer_argmin_f32_i32, olt_zero le_rfl, oeq_one, une_zero, Scalar.select, IntOp.ori, IntOp.andi,
        IntOp.cmpi, BitVec.slt, hij]

/-- The reduction starts from the greatest value. -/
theorem start_value (i : S_.Idx) : constant (F := Ideal) S_ .f32 0x7F800000#32 i = (⊤ : EReal) := ofBits_top

/-- It starts from number zero. -/
theorem start_number (i : S_.Idx) : constantI S_ 32 0#32 i = 0#32 := rfl

/-- Every column carries its number. -/
theorem column_number (r : Fin 16384) (k : Fin 1024) :
    iotaInDim S16384x1024 32 1 (ix2 r k) = BitVec.ofNat 32 (k : ℕ) := rfl

/-- The choices, as one function of the row. -/
theorem choice_eq (d : FVec Ideal S16384x1024 .f32) : choice d = fun j =>
    (Host.argReduce (F := Ideal) (φ := .f32) reducer_argmin_f32_i32 d (iotaInDim S16384x1024 32 1)
      (constant S_ .f32 0x7F800000#32) (constantI S_ 32 0#32) reducesTo_S16384x1024_S16384_d1 h_S_ j).2 := rfl

/-- The choice in row `r` is the number of the first smallest distance. -/
theorem choice_at (d : FVec Ideal S16384x1024 .f32) (r : Fin 16384) :
    choice d (ix1 r) = BitVec.ofNat 32 (firstMin fun k => d (ix2 r k) : ℕ) :=
  (congrFun (choice_eq d) (ix1 r)).trans
    (reduce_first _ reducer_keeps d (iotaInDim S16384x1024 32 1) (constant (F := Ideal) S_ .f32 0x7F800000#32)
      (constantI S_ 32 0#32) h_S_ r (start_value _) (start_number _) (column_number r))

end Cert.ReferenceIdeal.Value

end
-- ==== Proof.RefDist.lean ====
/- The reference's distances, one at a time: at a pixel and a codebook row, the expanded squared distance of the two. -/
module

public import proofs.«01_k».proof.Proof.RefRun
public import proofs.«01_k».proof.Proof.Quantize

@[expose] public section

noncomputable section

namespace Cert.ReferenceIdeal.Value

open Cert.ReferenceIdeal Cert.ReferenceIdeal.Facts₀ Cert.Vq Idealize.ShloMosaic

/-- Row `r` of the laid-out images is pixel `r`'s feature vector. -/
theorem rows_at (X : Img) (r : Fin 16384) (c : Fin 64) : rows X (ix2 r c) = pixel X r c := by
  pointwise [rows, last]
  rfl

/-- The distance of pixel `r` from codebook row `k`. -/
theorem dist_at (X : Img) (W : Book) (r : Fin 16384) (k : Fin 1024) :
    dist X W (ix2 r k) = sqDist (pixel X r) fun c => W (ix2 k c) := by
  unfold dist
  generalize hx : rows X = x
  pointwise
  subst hx
  simp only [rows_at]
  rfl

end Cert.ReferenceIdeal.Value

end
-- ==== Proof.RefValue.lean ====
/- The reference's three results: the nearest rows' numbers, the quantized images and the loss. -/
module

public import proofs.«01_k».proof.Proof.RefArgmin
public import proofs.«01_k».proof.Proof.RefDist

@[expose] public section

noncomputable section

namespace Cert.ReferenceIdeal.Value

open Cert.ReferenceIdeal Cert.ReferenceIdeal.Facts₀ Cert.Vq Idealize.ShloMosaic

/-- The choice at pixel `r` is its nearest codebook row. -/
theorem choice_nearest (X : Img) (W : Book) (r : Fin 16384) :
    choice (dist X W) (ix1 r) = BitVec.ofNat 32 (nearest W (pixel X r) : ℕ) := by
  rw [choice_at]
  simp only [dist_at]
  rfl

/-- A one-hot row has its one at the chosen number. -/
theorem oneHot_at (n : IVec S16384 32) (r : Fin 16384) (i k : Fin 1024) (hn : n (ix1 r) = BitVec.ofNat 32 (i : ℕ)) :
    oneHot n (ix2 r k) = (if k = i then 1 else 0 : EReal) := by
  refine Eq.trans ?_ (oneHot_unsigned k i)
  rw [← hn]
  pointwise [oneHot]

/-- A pixel's chosen row is the sum of the codebook rows weighted by its one-hot row. -/
theorem chosen_at (W : Book) (n : IVec S16384 32) (b : Fin 16) (h w : Fin 32) (c : Fin 64) :
    chosen W n (ix4 b h w c) = ∑ k : Fin 1024, (oneHot n (ix2 (pixelNo b h w) k) : EReal) * W (ix2 k c) := by
  unfold chosen
  generalize oneHot n = o
  pointwise
  rw [show ∀ hb, (⟨(b : ℕ) * 1024 + h * 32 + w, hb⟩ : Fin 16384) = pixelNo b h w from
    fun hb => Fin.ext (by simp only [pixelNo]; omega)]

/-- The chosen rows are the nearest ones. -/
theorem chosen_picked (X : Img) (W : Book) (b : Fin 16) (h w : Fin 32) (c : Fin 64) :
    chosen W (choice (dist X W)) (ix4 b h w c) = picked W (pixel X (pixelNo b h w)) c := by
  rw [chosen_at]
  simp only [oneHot_at _ _ _ _ (choice_nearest X W (pixelNo b h w))]
  rfl

/-- The images with the features last hold the pixels' features. -/
theorem last_at (X : Img) (b : Fin 16) (h w : Fin 32) (c : Fin 64) :
    last X (ix4 b h w c) = pixel X (pixelNo b h w) c := by
  rw [pixel_pixelNo]
  pointwise [last]

/-- Numbers laid out over the places. -/
theorem places_at (n : IVec S16384 32) :
    shapeCast S16x32x32 n shapeCasts_S16384_S16x32x32 = fun i : S16x32x32.Idx => n (ix1 (pixelNo (i 0) (i 1) (i 2))) := by
  funext i
  idx_vars i
  pointwise
  rw [show ∀ hb, (⟨(i0 : ℕ) * 1024 + i1 * 32 + i2, hb⟩ : Fin 16384) = pixelNo i0 i1 i2 from
    fun hb => Fin.ext (by simp only [pixelNo]; omega)]

/-- The choices of all pixels. -/
theorem choice_fun (X : Img) (W : Book) :
    choice (dist X W) = fun j : S16384.Idx => BitVec.ofNat 32 (nearest W (pixel X (j 0)) : ℕ) := by
  funext j
  refine (congrArg (choice (dist X W)) (eq_ix1 j)).trans (choice_nearest X W (j 0))

/-- The first result. -/
theorem outIndex_eq (X : Img) (W : Book) : outIndex X W = resultIndex X W :=
  (congrArg (fun n : IVec S16384 32 => shapeCast S16x32x32 n shapeCasts_S16384_S16x32x32) (choice_fun X W)).trans
    (places_at _)

/-- The second result. -/
theorem outPassed_eq (X : Img) (W : Book) : outPassed X W = resultPassed X W := by
  funext i
  idx_vars i
  have hq := chosen_picked X W i0 i2 i3 i1
  have hx := last_at X i0 i2 i3 i1
  unfold outPassed
  generalize chosen W (choice (dist X W)) = q at hq ⊢
  generalize last X = x at hx ⊢
  pointwise
  rw [hq, hx]
  rfl

/-- A sum that leaves a scalar is the sum over all places. -/
theorem sum_all {n0 n1 n2 n3 : ℕ} (h : (⟨4, ![n0, n1, n2, n3]⟩ : Shape).ReducesTo [0, 1, 2, 3] S_)
    (v : (⟨4, ![n0, n1, n2, n3]⟩ : Shape).Idx → EReal) (i : S_.Idx) :
    Ideal.hostReduceAdd h v 0 i = ∑ a, ∑ b, ∑ c, ∑ d, v (ix4 a b c d) := by
  unfold Ideal.hostReduceAdd
  rw [zero_add, Finset.filter_true_of_mem (fun j _ => Subsingleton.elim (α := (b : Fin 0) → Fin (![] b)) _ _)]
  exact sum_idx4 _

/-- The mean of squared differences, over the places and the features. -/
theorem meanSq_at (q x : FVec Ideal S16x32x32x64 .f32) (i : S_.Idx) :
    meanSq q x i = Ideal.div (∑ b : Fin 16, ∑ h : Fin 32, ∑ w : Fin 32, ∑ c : Fin 64,
      (q (ix4 b h w c) - x (ix4 b h w c)) * (q (ix4 b h w c) - x (ix4 b h w c)) : EReal) (Ideal.ofBits .f32 1233125376#32) := by
  pointwise [meanSq]
  rw [sum_all]
  rfl

/-- The mean squared error. -/
theorem meanSq_err (X : Img) (W : Book) (i : S_.Idx) :
    meanSq (chosen W (choice (dist X W))) (last X) i
      = Ideal.div (errSum X W) (Ideal.ofBits .f32 1233125376#32) := by
  rw [meanSq_at]
  unfold errSum
  rw [sum_pixels]
  simp only [chosen_picked, last_at]
  rfl

/-- The third result. -/
theorem outLoss_eq (X : Img) (W : Book) : outLoss X W = resultLoss X W := by
  funext i
  have h := meanSq_err X W i
  unfold outLoss
  generalize meanSq (chosen W (choice (dist X W))) (last X) = v at h ⊢
  pointwise
  rw [h]
  rfl

end Cert.ReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelRun
public import proofs.«01_k».proof.Proof.RefValue
public import Idealize.ShloMosaic.Lib.Claim
public import Idealize.ShloMosaic.Adequacy
public import Idealize.ShloMosaic.Init

@[expose] public section

noncomputable section

namespace Cert.Proof

open Idealize.ShloMosaic Idealize.SL.Sem Cert.Vq

/-- On the same images and codebook the two programs leave the same three results: each is the first nearest row's
    number at every place, the images with the nearest rows put in, and the loss. -/
theorem values : algebraic_KernelIdeal_ReferenceIdeal := by
  intro m g m' g' _ hagree
  refine ⟨fun c => resultIndex (KernelIdeal.Value.images m c) (KernelIdeal.Value.codebook m c),
    fun c => resultPassed (KernelIdeal.Value.images m c) (KernelIdeal.Value.codebook m c),
    fun c => resultLoss (KernelIdeal.Value.images m c) (KernelIdeal.Value.codebook m c),
    KernelIdeal.Value.run m g, (θ_run _ _ _).mono (fun r h c => ?_) (ReferenceIdeal.Value.run m' g')⟩
  obtain ⟨h0, h1, h2, h3, h4⟩ := h c
  have eX : m' ((c.tc : Thread ReferenceIdeal.nD ReferenceIdeal.τ).loc ReferenceIdeal.main_arg0)
      = KernelIdeal.Value.images m c := (hagree c).1
  have eW : m' ((c.tc : Thread ReferenceIdeal.nD ReferenceIdeal.τ).loc ReferenceIdeal.main_arg1)
      = KernelIdeal.Value.codebook m c := (hagree c).2
  rw [eX, eW] at h0 h1 h2
  exact ⟨h0.trans (ReferenceIdeal.Value.outIndex_eq _ _), h1.trans (ReferenceIdeal.Value.outPassed_eq _ _),
    h2.trans (ReferenceIdeal.Value.outLoss_eq _ _), h3, h4⟩

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    Cert.ReferenceIdeal.Value.frame, trivial, values⟩

end Cert.Proof

end
